-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_plus_infinity [hPre_no_plus_infinity : Cert.Pre_no_plus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_no_plus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_no_plus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_plus_infinity [hPre_no_plus_infinity : Cert.Pre_no_plus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_plus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_no_plus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_plus_infinity [hKernelIdeal : Cert.KernelIdeal.Facts] [hPre_no_plus_infinity : Cert.Pre_no_plus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_plus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_plus_infinity [hReferenceIdeal : Cert.ReferenceIdeal.Facts] [hPre_no_plus_infinity : Cert.Pre_no_plus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_plus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_no_plus_infinity [hKernelIdeal : Cert.KernelIdeal.Facts] [hReferenceIdeal : Cert.ReferenceIdeal.Facts] [hPre_no_plus_infinity : Cert.Pre_no_plus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_plus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_plus_infinity : Cert.Pre_no_plus_infinity.Facts),
    quiescent_Kernel (hKernel := hKernel)
    ∧ quiescent_KernelIdeal (hKernelIdeal := hKernelIdeal)
    ∧ quiescent_KernelIdeal_pre_no_plus_infinity (hKernelIdeal := hKernelIdeal) (hPre_no_plus_infinity := hPre_no_plus_infinity)
    ∧ quiescent_ReferenceIdeal (hReferenceIdeal := hReferenceIdeal)
    ∧ quiescent_ReferenceIdeal_pre_no_plus_infinity (hReferenceIdeal := hReferenceIdeal) (hPre_no_plus_infinity := hPre_no_plus_infinity)
    ∧ preserves_Kernel_KernelIdeal
    ∧ algebraic_KernelIdeal_ReferenceIdeal_pre_no_plus_infinity (hKernelIdeal := hKernelIdeal) (hReferenceIdeal := hReferenceIdeal) (hPre_no_plus_infinity := hPre_no_plus_infinity)
-- ==== Pre_no_plus_infinity.lean ====
abbrev S8x32x128x128 : Shape := ⟨4, ![8, 32, 128, 128]⟩
abbrev S1x32x32x3x3 : Shape := ⟨5, ![1, 32, 32, 3, 3]⟩
abbrev S_ : Shape := ⟨0, ![]⟩

class Facts : Prop where
  bcast_S_S8x32x128x128 : S_.BroadcastsInDim S8x32x128x128 (![] : Fin 0 → Fin S8x32x128x128.rank)
  bcast_S_S1x32x32x3x3 : S_.BroadcastsInDim S1x32x32x3x3 (![] : Fin 0 → Fin S1x32x32x3x3.rank)

variable [Facts]

def fn {F : FTy → Type} [FloatOps F] (main_arg0 : FVec F S8x32x128x128 .f32) (main_arg1 : FVec F S1x32x32x3x3 .f32) : IVec S8x32x128x128 1 × IVec S1x32x32x3x3 1 :=
  let main_cst : FVec F S_ .f32 := constant S_ .f32 0x7F800000#32
  let main_v0 : FVec F S8x32x128x128 .f32 := broadcastInDim S8x32x128x128 ![] bcast_S_S8x32x128x128 main_cst
  let main_v1 : IVec S8x32x128x128 1 := cmpf .olt main_arg0 main_v0
  let main_cst_0 : FVec F S_ .f32 := constant S_ .f32 0x7F800000#32
  let main_v2 : FVec F S1x32x32x3x3 .f32 := broadcastInDim S1x32x32x3x3 ![] bcast_S_S1x32x32x3x3 main_cst_0
  let main_v3 : IVec S1x32x32x3x3 1 := cmpf .olt main_arg1 main_v2
  (main_v1, main_v3)
-- ==== Kernel.lean ====
abbrev S8x32x128x128 : Shape := ⟨4, ![8, 32, 128, 128]⟩
abbrev S1x32x32x3x3 : Shape := ⟨5, ![1, 32, 32, 3, 3]⟩
abbrev S32x32x3x3 : Shape := ⟨4, ![32, 32, 3, 3]⟩
abbrev S3x32x3x32 : Shape := ⟨4, ![3, 32, 3, 32]⟩
abbrev S96x96 : Shape := ⟨2, ![96, 96]⟩
abbrev S1x32x128x128 : Shape := ⟨4, ![1, 32, 128, 128]⟩
abbrev S32x16896 : Shape := ⟨2, ![32, 16896]⟩
abbrev S32x256 : Shape := ⟨2, ![32, 256]⟩
abbrev S32x128x128 : Shape := ⟨3, ![32, 128, 128]⟩
abbrev S32x16384 : Shape := ⟨2, ![32, 16384]⟩
abbrev S96x16384 : Shape := ⟨2, ![96, 16384]⟩
abbrev S32x96 : Shape := ⟨2, ![32, 96]⟩
abbrev S32 : Shape := ⟨1, ![32]⟩
abbrev S32x1 : Shape := ⟨2, ![32, 1]⟩
abbrev S32x16383 : Shape := ⟨2, ![32, 16383]⟩

abbrev nBuf : Space → Nat
  | .hbm => 6
  | .vmem => 6
  | .smem => 0
  | _ => 0

abbrev bufTy : (tb : Table) → Fin (tcTables nBuf tb) → BufTy
  | .hbm, ⟨0, _⟩ => ⟨S8x32x128x128, .f32⟩
  | .hbm, ⟨1, _⟩ => ⟨S1x32x32x3x3, .f32⟩
  | .hbm, ⟨2, _⟩ => ⟨S32x32x3x3, .f32⟩
  | .hbm, ⟨3, _⟩ => ⟨S3x32x3x32, .f32⟩
  | .hbm, ⟨4, _⟩ => ⟨S96x96, .f32⟩
  | .hbm, ⟨5, _⟩ => ⟨S8x32x128x128, .f32⟩
  | .local _ .vmem, ⟨0, _⟩ => ⟨S1x32x128x128, .f32⟩
  | .local _ .vmem, ⟨1, _⟩ => ⟨S1x32x128x128, .f32⟩
  | .local _ .vmem, ⟨2, _⟩ => ⟨S96x96, .f32⟩
  | .local _ .vmem, ⟨3, _⟩ => ⟨S1x32x128x128, .f32⟩
  | .local _ .vmem, ⟨4, _⟩ => ⟨S1x32x128x128, .f32⟩
  | .local _ .vmem, ⟨5, _⟩ => ⟨S32x16896, .f32⟩
  | _, _ => ⟨S8x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x32x128x128 : Shape := ⟨4, ![8, 32, 128, 128]⟩
abbrev S1x32x32x3x3 : Shape := ⟨5, ![1, 32, 32, 3, 3]⟩
abbrev S_ : Shape := ⟨0, ![]⟩
abbrev S8x32x130x130 : Shape := ⟨4, ![8, 32, 130, 130]⟩
abbrev S8x32x1x128x128 : Shape := ⟨5, ![8, 32, 1, 128, 128]⟩
abbrev S8x32x9x128x128 : Shape := ⟨5, ![8, 32, 9, 128, 128]⟩
abbrev S8x288x128x128 : Shape := ⟨4, ![8, 288, 128, 128]⟩
abbrev S8x128x128x288 : Shape := ⟨4, ![8, 128, 128, 288]⟩
abbrev S131072x288 : Shape := ⟨2, ![131072, 288]⟩
abbrev S32x288 : Shape := ⟨2, ![32, 288]⟩
abbrev S131072 : Shape := ⟨1, ![131072]⟩
abbrev S131072x1 : Shape := ⟨2, ![131072, 1]⟩
abbrev S32 : Shape := ⟨1, ![32]⟩
abbrev S32x1 : Shape := ⟨2, ![32, 1]⟩
abbrev S288x32 : Shape := ⟨2, ![288, 32]⟩
abbrev S131072x32 : Shape := ⟨2, ![131072, 32]⟩
abbrev S1x32 : Shape := ⟨2, ![1, 32]⟩
abbrev S8x128x128x32 : Shape := ⟨4, ![8, 128, 128, 32]⟩

abbrev nBuf : Space → Nat
  | .hbm => 63
  | .vmem => 0
  | .smem => 0
  | _ => 0

abbrev bufTy : (tb : Table) → Fin (tcTables nBuf tb) → BufTy
  | .hbm, ⟨0, _⟩ => ⟨S8x32x128x128, .f32⟩
  | .hbm, ⟨1, _⟩ => ⟨S1x32x32x3x3, .f32⟩
  | .hbm, ⟨2, _⟩ => ⟨S_, .i32⟩
  | .hbm, ⟨3, _⟩ => ⟨S_, .f32⟩
  | .hbm, ⟨4, _⟩ => ⟨S8x32x130x130, .f32⟩
  | .hbm, ⟨5, _⟩ => ⟨S8x32x128x128, .f32⟩
  | .hbm, ⟨6, _⟩ => ⟨S8x32x128x128, .f32⟩
  | .hbm, ⟨7, _⟩ => ⟨S8x32x128x128, .f32⟩
  | .hbm, ⟨8, _⟩ => ⟨S8x32x128x128, .f32⟩
  | .hbm, ⟨9, _⟩ => ⟨S8x32x128x128, .f32⟩
  | .hbm, ⟨10, _⟩ => ⟨S8x32x128x128, .f32⟩
  | .hbm, ⟨11, _⟩ => ⟨S8x32x128x128, .f32⟩
  | .hbm, ⟨12, _⟩ => ⟨S8x32x128x128, .f32⟩
  | .hbm, ⟨13, _⟩ => ⟨S8x32x128x128, .f32⟩
  | .hbm, ⟨14, _⟩ => ⟨S8x32x1x128x128, .f32⟩
  | .hbm, ⟨15, _⟩ => ⟨S8x32x1x128x128, .f32⟩
  | .hbm, ⟨16, _⟩ => ⟨S8x32x1x128x128, .f32⟩
  | .hbm, ⟨17, _⟩ => ⟨S8x32x1x128x128, .f32⟩
  | .hbm, ⟨18, _⟩ => ⟨S8x32x1x128x128, .f32⟩
  | .hbm, ⟨19, _⟩ => ⟨S8x32x1x128x128, .f32⟩
  | .hbm, ⟨20, _⟩ => ⟨S8x32x1x128x128, .f32⟩
  | .hbm, ⟨21, _⟩ => ⟨S8x32x1x128x128, .f32⟩
  | .hbm, ⟨22, _⟩ => ⟨S8x32x1x128x128, .f32⟩
  | .hbm, ⟨23, _⟩ => ⟨S8x32x9x128x128, .f32⟩
  | .hbm, ⟨24, _⟩ => ⟨S8x288x128x128, .f32⟩
  | .hbm, ⟨25, _⟩ => ⟨S8x128x128x288, .f32⟩
  | .hbm, ⟨26, _⟩ => ⟨S131072x288, .f32⟩
  | .hbm, ⟨27, _⟩ => ⟨S32x288, .f32⟩
  | .hbm, ⟨28, _⟩ => ⟨S_, .f32⟩
  | .hbm, ⟨29, _⟩ => ⟨S131072, .f32⟩
  | .hbm, ⟨30, _⟩ => ⟨S131072x1, .f32⟩
  | .hbm, ⟨31, _⟩ => ⟨S_, .f32⟩
  | .hbm, ⟨32, _⟩ => ⟨S32, .f32⟩
  | .hbm, ⟨33, _⟩ => ⟨S32x1, .f32⟩
  | .hbm, ⟨34, _⟩ => ⟨S131072x288, .f32⟩
  | .hbm, ⟨35, _⟩ => ⟨S131072x288, .f32⟩
  | .hbm, ⟨36, _⟩ => ⟨S_, .f32⟩
  | .hbm, ⟨37, _⟩ => ⟨S131072x288, .f32⟩
  | .hbm, ⟨38, _⟩ => ⟨S131072x288, .f32⟩
  | .hbm, ⟨39, _⟩ => ⟨S131072x288, .f32⟩
  | .hbm, ⟨40, _⟩ => ⟨S32x288, .f32⟩
  | .hbm, ⟨41, _⟩ => ⟨S32x288, .f32⟩
  | .hbm, ⟨42, _⟩ => ⟨S_, .f32⟩
  | .hbm, ⟨43, _⟩ => ⟨S32x288, .f32⟩
  | .hbm, ⟨44, _⟩ => ⟨S32x288, .f32⟩
  | .hbm, ⟨45, _⟩ => ⟨S32x288, .f32⟩
  | .hbm, ⟨46, _⟩ => ⟨S288x32, .f32⟩
  | .hbm, ⟨47, _⟩ => ⟨S131072x32, .f32⟩
  | .hbm, ⟨48, _⟩ => ⟨S1x32, .f32⟩
  | .hbm, ⟨49, _⟩ => ⟨S131072x32, .f32⟩
  | .hbm, ⟨50, _⟩ => ⟨S131072x32, .f32⟩
  | .hbm, ⟨51, _⟩ => ⟨S131072x32, .f32⟩
  | .hbm, ⟨52, _⟩ => ⟨S131072x32, .f32⟩
  | .hbm, ⟨53, _⟩ => ⟨S_, .f32⟩
  | .hbm, ⟨54, _⟩ => ⟨S_, .f32⟩
  | .hbm, ⟨55, _⟩ => ⟨S131072x32, .f32⟩
  | .hbm, ⟨56, _⟩ => ⟨S131072x32, .f32⟩
  | .hbm, ⟨57, _⟩ => ⟨S_, .f32⟩
  | .hbm, ⟨58, _⟩ => ⟨S131072x32, .f32⟩
  | .hbm, ⟨59, _⟩ => ⟨S131072x32, .f32⟩
  | .hbm, ⟨60, _⟩ => ⟨S131072x32, .f32⟩
  | .hbm, ⟨61, _⟩ => ⟨S8x128x128x32, .f32⟩
  | .hbm, ⟨62, _⟩ => ⟨S8x32x128x128, .f32⟩
  | _, _ => ⟨S8x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Proof.Spec.lean ====
/- What both programs compute, written once, as a function of the two argument arrays over the extended reals:

     mex x o [n, i, h, w]  =  log (Σ over channels c, rows kh, columns kw of the 3 x 3 window of
                                    exp (o[i, c, kh, kw]) · exp (x̂[n, c, h + kh - 1, w + kw - 1]))  -  log 288,

   where x̂ is the image with a border of zeros. The 288 terms are indexed by one number k = (c · 3 + kh) · 3 + kw, as the
   reference lays its patches out; `window_sum` splits the same sum by window column, as the kernel does. -/
module

public import Idealize.ShloMosaic.Lib.Pointwise
public import Idealize.ShloMosaic.Lib.IdealHost

@[expose] public section

noncomputable section

namespace MexPool

open Idealize.ShloMosaic
open scoped BigOperators

/-- Pixel `(h + kh - 1, w + kw - 1)` of channel `c` of one image, zero outside the image. -/
def tap (X : Fin 32 → Fin 128 → Fin 128 → EReal) (c : Fin 32) (kh kw h w : ℕ) : EReal :=
  if hb : (1 ≤ h + kh ∧ h + kh ≤ 128) ∧ (1 ≤ w + kw ∧ w + kw ≤ 128) then
    X c ⟨h + kh - 1, by omega⟩ ⟨w + kw - 1, by omega⟩ else 0

/-- A tap inside the image is the pixel. -/
theorem tap_inside (X : Fin 32 → Fin 128 → Fin 128 → EReal) (c : Fin 32) (kh kw h w : ℕ) (a b : Fin 128)
    (ha : (a : ℕ) + 1 = h + kh) (hb : (b : ℕ) + 1 = w + kw) : tap X c kh kw h w = X c a b := by
  have h1 := a.isLt
  have h2 := b.isLt
  unfold tap
  rw [dif_pos (by omega)]
  congr 1 <;> (apply Fin.ext; simp only; omega)

/-- A tap outside the image is zero. -/
theorem tap_outside (X : Fin 32 → Fin 128 → Fin 128 → EReal) (c : Fin 32) (kh kw h w : ℕ)
    (hb : ¬((1 ≤ h + kh ∧ h + kh ≤ 128) ∧ (1 ≤ w + kw ∧ w + kw ≤ 128))) : tap X c kh kw h w = 0 := dif_neg hb

/-- Channel of term `k`. -/
def chan (k : Fin 288) : Fin 32 := ⟨k.val / 3 / 3, by have := k.isLt; omega⟩
/-- Window row of term `k`. -/
def wrow (k : Fin 288) : Fin 3 := ⟨k.val / 3 % 3, by omega⟩
/-- Window column of term `k`. -/
def wcol (k : Fin 288) : Fin 3 := ⟨k.val % 3, by omega⟩

/-- The sum under the logarithm, for one image `X` and one instance's offsets `O`. -/
def mexSum (X : Fin 32 → Fin 128 → Fin 128 → EReal) (O : Fin 32 → Fin 3 → Fin 3 → EReal) (h w : ℕ) : EReal :=
  ∑ k : Fin 288, Ideal.exp (O (chan k) (wrow k) (wcol k)) * Ideal.exp (tap X (chan k) (wrow k) (wcol k) h w)

/-- `log 288`, as both programs compute it from the number 288. -/
def log288 : EReal := Ideal.log (Ideal.ofBits .f32 0x43900000#32)

/-- One output pixel. -/
def mexAt (X : Fin 32 → Fin 128 → Fin 128 → EReal) (O : Fin 32 → Fin 3 → Fin 3 → EReal) (h w : ℕ) : EReal :=
  Ideal.log (mexSum X O h w) - log288

/-- **The whole result**, as a function of the two argument arrays. -/
def mex (x : (⟨4, ![8, 32, 128, 128]⟩ : Shape).Idx → EReal) (o : (⟨5, ![1, 32, 32, 3, 3]⟩ : Shape).Idx → EReal) :
    (⟨4, ![8, 32, 128, 128]⟩ : Shape).Idx → EReal := fun j =>
  mexAt (fun c h w => x (ix4 (j 0) c h w)) (fun c kh kw => o (ix5 0 (j 1) c kh kw)) (j 2).val (j 3).val

/-- The channel of row `r` of the kernel's stacked shifted images (three groups of 32 channels, one per window row). -/
def rchan (r : Fin 96) : Fin 32 := ⟨r.val % 32, by omega⟩
/-- The window row of row `r` of the stack. -/
def rrow (r : Fin 96) : Fin 3 := ⟨r.val / 32, by have := r.isLt; omega⟩

theorem wcol_val (k : Fin 288) : (wcol k).val = k.val % 3 := rfl
theorem wrow_val (k : Fin 288) : (wrow k).val = k.val / 3 % 3 := rfl
theorem chan_val (k : Fin 288) : (chan k).val = k.val / 3 / 3 := rfl
theorem rchan_val (r : Fin 96) : (rchan r).val = r.val % 32 := rfl
theorem rrow_val (r : Fin 96) : (rrow r).val = r.val / 32 := rfl

/-- The row of the stack that holds term `k`'s channel and window row. -/
def stackRow (k : Fin 288) : Fin 96 := ⟨k.val / 3 % 3 * 32 + k.val / 3 / 3, by have := k.isLt; omega⟩
theorem stackRow_val (k : Fin 288) : (stackRow k).val = k.val / 3 % 3 * 32 + k.val / 3 / 3 := rfl

/-- The term of window column `a` and row `r` of the stack. -/
def termOf (a : Fin 3) (r : Fin 96) : Fin 288 :=
  ⟨(r.val % 32 * 3 + r.val / 32) * 3 + a.val, by have := a.isLt; have := r.isLt; omega⟩
theorem termOf_val (a : Fin 3) (r : Fin 96) : (termOf a r).val = (r.val % 32 * 3 + r.val / 32) * 3 + a.val := rfl

theorem termOf_split (k : Fin 288) : termOf (wcol k) (stackRow k) = k := by
  have := k.isLt
  apply Fin.ext; rw [termOf_val, stackRow_val, wcol_val]; omega
theorem wcol_termOf (a : Fin 3) (r : Fin 96) : wcol (termOf a r) = a := by
  have := a.isLt
  apply Fin.ext; rw [wcol_val, termOf_val]; omega
theorem stackRow_termOf (a : Fin 3) (r : Fin 96) : stackRow (termOf a r) = r := by
  have := a.isLt
  have := r.isLt
  apply Fin.ext; rw [stackRow_val, termOf_val]; omega
theorem rchan_stackRow (k : Fin 288) : rchan (stackRow k) = chan k := by
  have := k.isLt
  apply Fin.ext; rw [rchan_val, chan_val, stackRow_val]; omega
theorem rrow_stackRow (k : Fin 288) : rrow (stackRow k) = wrow k := by
  have := k.isLt
  apply Fin.ext; rw [rrow_val, wrow_val, stackRow_val]; omega

/-- Term `k` of the window is window column `wcol k` and row `stackRow k` of the stack. -/
def splitEquiv : Fin 288 ≃ Fin 3 × Fin 96 :=
  ⟨fun k => (wcol k, stackRow k), fun q => termOf q.1 q.2, termOf_split,
    fun q => Prod.ext (wcol_termOf q.1 q.2) (stackRow_termOf q.1 q.2)⟩

/-- **The sum, split by window column**: the middle column, then the left one, then the right one. -/
theorem window_sum (X : Fin 32 → Fin 128 → Fin 128 → EReal) (O : Fin 32 → Fin 3 → Fin 3 → EReal) (h w : ℕ) :
    mexSum X O h w
      = ((∑ r : Fin 96, Ideal.exp (O (rchan r) (rrow r) 1) * Ideal.exp (tap X (rchan r) (rrow r) 1 h w))
          + (∑ r : Fin 96, Ideal.exp (O (rchan r) (rrow r) 0) * Ideal.exp (tap X (rchan r) (rrow r) 0 h w)))
        + (∑ r : Fin 96, Ideal.exp (O (rchan r) (rrow r) 2) * Ideal.exp (tap X (rchan r) (rrow r) 2 h w)) := by
  have key : mexSum X O h w = ∑ q : Fin 3 × Fin 96,
      Ideal.exp (O (rchan q.2) (rrow q.2) q.1) * Ideal.exp (tap X (rchan q.2) (rrow q.2) q.1 h w) := by
    refine Fintype.sum_equiv splitEquiv _ _ fun k => ?_
    show _ = Ideal.exp (O (rchan (stackRow k)) (rrow (stackRow k)) (wcol k)) * Ideal.exp (tap X (rchan (stackRow k)) (rrow (stackRow k)) (wcol k) h w)
    rw [rchan_stackRow, rrow_stackRow]
  rw [key, Fintype.sum_prod_type, Fin.sum_univ_three]
  simp only [Fin.val_zero, Fin.val_one, Fin.val_two]
  rw [add_comm (∑ r : Fin 96, Ideal.exp (O (rchan r) (rrow r) 0) * _)]

end MexPool

end
-- ==== Proof.LogSumExp.lean ====
/- The one piece of mathematics behind the equation: taking the two maxima out of a log-sum-exp.

   Over the extended reals, for numbers `p k`, `o k` below `+∞`, a shift `M` of the `p k` and a shift `N` of the `o k`
   (each a real, or `-∞` if all the numbers it shifts are `-∞`) and a real `L`:

     (M + N) + (log (Σ exp (p k - M) · exp (o k - N)) - L)  =  log (Σ exp (p k) · exp (o k)) - L.

   The left side is what the reference computes, the right side what the kernel computes. -/
module

public import Idealize.ShloMosaic.Lib.ValueIdx
public import Idealize.ShloMosaic.Lib.IdealHost

@[expose] public section

noncomputable section

namespace MexPool

open Idealize.ShloMosaic
open scoped BigOperators

/-- The exponential of anything below `+∞` is a real number, and not negative. -/
theorem exp_real (x : EReal) (hx : x ≠ ⊤) : ∃ a : ℝ, 0 ≤ a ∧ Ideal.exp x = (a : EReal) := by
  induction x with
  | bot => exact ⟨0, le_refl _, by simp⟩
  | coe r => exact ⟨Real.exp r, (Real.exp_pos r).le, by simp⟩
  | top => exact absurd rfl hx

/-- Shifting by a real `M` before the exponential multiplies the result by `exp (-M)`. -/
theorem exp_sub_real (x : EReal) (hx : x ≠ ⊤) (M a : ℝ) (ha : Ideal.exp x = (a : EReal)) :
    Ideal.exp (x - (M : EReal)) = ((a * Real.exp (-M) : ℝ) : EReal) := by
  induction x with
  | bot =>
    have h0 : a = 0 := by
      have : ((0 : ℝ) : EReal) = (a : EReal) := by simpa using ha
      exact (EReal.coe_eq_coe_iff.mp this).symm
    have hb : (⊥ : EReal) - (M : EReal) = ⊥ := EReal.bot_sub _
    rw [hb, h0]; simp
  | coe r =>
    have h0 : a = Real.exp r := by
      have : ((Real.exp r : ℝ) : EReal) = (a : EReal) := by simpa using ha
      exact (EReal.coe_eq_coe_iff.mp this).symm
    rw [← EReal.coe_sub, Ideal.exp_coe, h0, ← Real.exp_add, sub_eq_add_neg]
  | top => exact absurd rfl hx

/-- A finite sum of reals, read in the extended reals. -/
theorem coe_sum {ι : Type*} [Fintype ι] (f : ι → ℝ) : (∑ k, (f k : EReal)) = ((∑ k, f k : ℝ) : EReal) := by
  classical
  induction (Finset.univ : Finset ι) using Finset.induction_on with
  | empty => simp
  | insert a s ha ih => rw [Finset.sum_insert ha, Finset.sum_insert ha, ih, EReal.coe_add]

/-- `-∞` minus a real is `-∞`. -/
theorem bot_sub_real (L : ℝ) : (⊥ : EReal) - (L : EReal) = ⊥ := EReal.bot_sub _

/-- **The maxima may be taken out.** -/
theorem shift_out {ι : Type*} [Fintype ι] (p o : ι → EReal) (hp : ∀ k, p k ≠ ⊤) (ho : ∀ k, o k ≠ ⊤)
    (M N : EReal) (hM : M ≠ ⊤) (hN : N ≠ ⊤) (hMb : M = ⊥ → ∀ k, p k = ⊥) (hNb : N = ⊥ → ∀ k, o k = ⊥) (L : ℝ) :
    (M + N) + (Ideal.log (∑ k, Ideal.exp (p k - M) * Ideal.exp (o k - N)) - (L : EReal))
      = Ideal.log (∑ k, Ideal.exp (o k) * Ideal.exp (p k)) - (L : EReal) := by
  -- if a sum of products vanishes, its logarithm is `-∞` and so is the right side
  have hzero : (∑ k, Ideal.exp (o k) * Ideal.exp (p k)) = 0 →
      Ideal.log (∑ k, Ideal.exp (o k) * Ideal.exp (p k)) - (L : EReal) = ⊥ := by
    intro h
    rw [h, show (0 : EReal) = ((0 : ℝ) : EReal) from rfl, Ideal.log_coe, if_pos (le_refl _), bot_sub_real]
  induction M with
  | bot =>
    have hall := hMb rfl
    rw [hzero (Finset.sum_eq_zero fun k _ => by rw [hall k, Ideal.exp_bot, mul_zero]), EReal.bot_add, EReal.bot_add]
  | top => exact absurd rfl hM
  | coe M =>
    induction N with
    | bot =>
      have hall := hNb rfl
      rw [hzero (Finset.sum_eq_zero fun k _ => by rw [hall k, Ideal.exp_bot, zero_mul]), EReal.add_bot, EReal.bot_add]
    | top => exact absurd rfl hN
    | coe N =>
      choose a ha0 ha using fun k => exp_real (p k) (hp k)
      choose b hb0 hb using fun k => exp_real (o k) (ho k)
      have h1 : (∑ k, Ideal.exp (o k) * Ideal.exp (p k)) = ((∑ k, b k * a k : ℝ) : EReal) := by
        rw [← coe_sum]; exact Finset.sum_congr rfl fun k _ => by rw [ha, hb, EReal.coe_mul]
      have h2 : (∑ k, Ideal.exp (p k - (M : EReal)) * Ideal.exp (o k - (N : EReal)))
          = (((∑ k, b k * a k) * Real.exp (-M + -N) : ℝ) : EReal) := by
        rw [Finset.sum_mul, ← coe_sum]
        refine Finset.sum_congr rfl fun k _ => ?_
        rw [exp_sub_real _ (hp k) M _ (ha k), exp_sub_real _ (ho k) N _ (hb k), ← EReal.coe_mul, Real.exp_add]
        congr 1; ring
      have hS : 0 ≤ ∑ k, b k * a k := Finset.sum_nonneg fun k _ => mul_nonneg (hb0 k) (ha0 k)
      rw [h1] at hzero
      rw [h1, h2]
      generalize (∑ k, b k * a k) = S at hS hzero ⊢
      rcases hS.eq_or_lt with h0 | hpos
      · rw [hzero (by rw [← h0]; rfl), ← h0, zero_mul, Ideal.log_coe, if_pos (le_refl _), bot_sub_real, EReal.add_bot]
      · rw [Ideal.log_coe, Ideal.log_coe, if_neg (not_le.mpr hpos), if_neg (not_le.mpr (mul_pos hpos (Real.exp_pos _))),
          Real.log_mul hpos.ne' (Real.exp_pos _).ne', Real.log_exp, ← EReal.coe_add, ← EReal.coe_sub, ← EReal.coe_sub, ← EReal.coe_add]
        congr 1; ring

/-- Dividing by one changes nothing. -/
theorem div_one' (x : EReal) : Ideal.div x 1 = x := by
  rw [show (1 : EReal) = ((1 : ℝ) : EReal) from rfl, Ideal.div_coe one_ne_zero]; simp

end MexPool

end
-- ==== Proof.Block.lean ====
/- What one grid point of the kernel writes, read at one pixel.

   The body keeps the exponentials of the image flattened to rows of 128 · 128 pixels, inside a wider row whose first and last
   256 entries are ones (`padRow`: the exponential of the zero border). Three shifted copies of it, one per window row, are
   multiplied by the exponentials of the offsets, giving for each window column one row of sums per instance. The left and the
   right column's rows are then rotated by one pixel, and where that would wrap around the image's edge the row sum of the
   weights (a whole column of the border) is taken instead. -/
module

public import proofs.«01_k».proof.Proof.Spec
public import proofs.«01_k».proof.Proof.LogSumExp
public import proofs.«01_k».proof.Proof.Gen.KernelIdeal.Value
public import Idealize.ShloMosaic.Lib.Pipeline.ValueKit
public import Idealize.ShloMosaic.Lib.Pipeline.ReadBack
public import Idealize.ShloMosaic.Lib.Affine
public import Idealize.ShloMosaic.Lib.Pointwise

@[expose] public section

set_option maxRecDepth 16384

noncomputable section

namespace Cert.KernelIdeal.MexBlock

open Idealize.ShloMosaic Idealize.ShloMosaic.TcCoe Idealize.ShloMosaic.Tactic Idealize.SL.Sem
open Cert.KernelIdeal Cert.KernelIdeal.Gen
open MexPool
open scoped BigOperators

/-- The image of a block, by channel, row and column. -/
def image (x : Vec Ideal S1x32x128x128 .f32) : Fin 32 → Fin 128 → Fin 128 → EReal := fun c h w => x (ix4 0 c h w)

/-- Instance `i`'s offsets in the 96 x 96 weight matrix: row `kw · 32 + i`, column `kh · 32 + c`. -/
def offsetsOf (W : Vec Ideal S96x96 .f32) (i : Fin 32) : Fin 32 → Fin 3 → Fin 3 → EReal := fun c kh kw =>
  W (ix2 ⟨kw.val * 32 + i.val, by have := kw.isLt; have := i.isLt; omega⟩
    ⟨kh.val * 32 + c.val, by have := kh.isLt; have := c.isLt; omega⟩)

/-- The padded row of exponentials: ones, the image's 16384 pixels, ones. -/
def padRow (x : Vec Ideal S1x32x128x128 .f32) : Vec Ideal S32x16896 .f32 := fun j =>
  if hj : 256 ≤ (j 1).val ∧ (j 1).val < 16640 then
    Ideal.exp (image x (j 0) ⟨((j 1).val - 256) / 128, by omega⟩ ⟨((j 1).val - 256) % 128, by omega⟩)
  else 1

/-- Inside, the padded row is the exponential of a pixel. -/
theorem padRow_inside (x : Vec Ideal S1x32x128x128 .f32) (j : S32x16896.Idx) (c : Fin 32) (a b : Fin 128)
    (h0 : (j 0).val = c.val) (h1 : (j 1).val = 256 + 128 * a.val + b.val) : padRow x j = Ideal.exp (image x c a b) := by
  have := a.isLt
  have := b.isLt
  have e0 : j 0 = c := Fin.ext h0
  unfold padRow
  rw [dif_pos (by omega), e0]
  congr 2 <;> (apply Fin.ext; simp only [h1]; omega)

/-- Outside, it is one. -/
theorem padRow_outside (x : Vec Ideal S1x32x128x128 .f32) (j : S32x16896.Idx)
    (h : ¬(256 ≤ (j 1).val ∧ (j 1).val < 16640)) : padRow x j = 1 := dif_neg h

/-- The image's exponentials, as the body stores them. -/
theorem pay4_apply (x : Vec Ideal S1x32x128x128 .f32) (i : Fin 32) (j : Fin 16384) :
    k0_pay4 x (ix2 i j) = Ideal.exp (image x i ⟨j.val / 128, by have := j.isLt; omega⟩ ⟨j.val % 128, by omega⟩) := by
  pointwise [k0_pay4, image]

theorem pay3_apply (j : S32x256.Idx) : (k0_pay3 : FVec Ideal S32x256 .f32) j = 1 := by
  pointwise [k0_pay3]

theorem pay2_apply (j : S32x256.Idx) : (k0_pay2 : FVec Ideal S32x256 .f32) j = 1 := by
  pointwise [k0_pay2]

/-- The three stores into the scratch, read back as one array, are the padded row. -/
theorem scratch_eq (x : Vec Ideal S1x32x128x128 .f32) :
    (View.whole cc0_scratch0).readCov (Val := Elt Ideal)
      [⟨Rect.unit ![0, 256] ![32, 16384] inb_S32x16896_S32x16384_0_256, k0_pay4 x⟩,
        ⟨Rect.unit ![0, 16640] ![32, 256] inb_S32x16896_S32x256_0_16640, (k0_pay3 : FVec Ideal S32x256 .f32)⟩,
        ⟨Rect.unit ![0, 0] ![32, 256] inb_S32x16896_S32x256_0_0, (k0_pay2 : FVec Ideal S32x256 .f32)⟩]
      (Rect.unit ![0, 0] ![32, 16896] inb_S32x16896_S32x16896_0_0).toLoadRect = padRow x := by
  rw [View.readCov_eq_canon']
  funext j
  have hj : (Rect.unit (s := S32x16896) ![0, 0] ![32, 16896] inb_S32x16896_S32x16896_0_0).toLoadRect.idx j = j := by
    funext a; apply Fin.ext; fin_cases a <;> simp [LoadRect.idx]
  rw [hj]
  refine View.canon_append_of_piecesOf (padRow x) [] [_, _, _] ⟨?_, ?_, ?_, trivial⟩ j ?_
  · intro y
    obtain ⟨i, l, rfl⟩ : ∃ (i : Fin 32) (l : Fin 16384), y = ix2 i l := ⟨y 0, y 1, eq_ix2 y⟩
    have hl := l.isLt
    refine (pay4_apply x i l).trans (padRow_inside x _ i ⟨l.val / 128, by omega⟩ ⟨l.val % 128, by omega⟩ ?_ ?_).symm
    · rw [ValueKit.rect_emb_unit_val]; show 0 + i.val = _; omega
    · rw [ValueKit.rect_emb_unit_val]; show 256 + l.val = _; simp only; omega
  · intro y
    refine (pay3_apply y).trans (padRow_outside x _ ?_).symm
    rw [ValueKit.rect_emb_unit_val]; show ¬(256 ≤ 16640 + (y 1).val ∧ 16640 + (y 1).val < 16640); omega
  · intro y
    refine (pay2_apply y).trans (padRow_outside x _ ?_).symm
    have hy : (y 1).val < 256 := (y 1).isLt
    rw [ValueKit.rect_emb_unit_val]; show ¬(256 ≤ 0 + (y 1).val ∧ 0 + (y 1).val < 16640); omega
  · have h0 : (j 0).val < 32 := (j 0).isLt
    have h1 : (j 1).val < 16896 := (j 1).isLt
    by_cases hlo : (j 1).val < 256
    · refine ⟨_, List.mem_cons_of_mem _ (List.mem_cons_of_mem _ List.mem_cons_self), ?_⟩
      rw [Rect.mem_set_unit]
      intro a
      match a with
      | ⟨0, _⟩ => exact ⟨Nat.zero_le _, by show (j 0).val < 0 + 32; omega⟩
      | ⟨1, _⟩ => exact ⟨Nat.zero_le _, by show (j 1).val < 0 + 256; omega⟩
    by_cases hhi : (j 1).val < 16640
    · refine ⟨_, List.mem_cons_self, ?_⟩
      rw [Rect.mem_set_unit]
      intro a
      match a with
      | ⟨0, _⟩ => exact ⟨Nat.zero_le _, by show (j 0).val < 0 + 32; omega⟩
      | ⟨1, _⟩ => exact ⟨by show 256 ≤ (j 1).val; omega, by show (j 1).val < 256 + 16384; omega⟩
    · refine ⟨_, List.mem_cons_of_mem _ List.mem_cons_self, ?_⟩
      rw [Rect.mem_set_unit]
      intro a
      match a with
      | ⟨0, _⟩ => exact ⟨Nat.zero_le _, by show (j 0).val < 0 + 32; omega⟩
      | ⟨1, _⟩ => exact ⟨by show 16640 ≤ (j 1).val; omega, by show (j 1).val < 16640 + 256; omega⟩

/-! ## The column number, and the two selections -/

/-- The column of pixel `l`, as the body computes it in words: `l mod 128`. -/
theorem pay10_apply (i : Fin 32) (l : Fin 16384) : (k0_pay10 (ix2 i l)).toNat = l.val % 128 := by
  have hl := l.isLt
  pointwise [k0_pay10]
  rw [show (Scalar.select (Scalar.cmpi CmpIPredicate.eq 128#32 0#32) 1#32 128#32) = BitVec.ofNat 32 128 from by decide,
    IntOp.toNat_remsi _ (by rw [BitVec.toNat_ofNat]; omega) 128 (by decide) (by decide), BitVec.toNat_ofNat]
  omega

/-- The sign correction of the remainder does nothing: the column word is not negative. -/
theorem fix_col (r : Fin 128) (q : BitVec 1) :
    Scalar.select (IntOp.andi (IntOp.xori (IntOp.cmpi CmpIPredicate.slt (BitVec.ofNat 32 r.val) 0#32)
        (Scalar.cmpi CmpIPredicate.slt 128#32 0#32)) q)
      (IntOp.addi (BitVec.ofNat 32 r.val) 128#32) (BitVec.ofNat 32 r.val) = BitVec.ofNat 32 r.val := by
  revert r q; decide

/-- The comparison with a column number. -/
theorem col_eq (r k : Fin 128) :
    IntOp.cmpi CmpIPredicate.eq (BitVec.ofNat 32 r.val) (BitVec.ofNat 32 k.val) = if r = k then 1#1 else 0#1 := by
  have hr := r.isLt
  have hk := k.isLt
  by_cases h : r = k
  · subst h; simp [IntOp.cmpi]
  · have : BitVec.ofNat 32 r.val ≠ BitVec.ofNat 32 k.val := fun e => h (Fin.ext (by
      have := congrArg BitVec.toNat e
      rw [BitVec.toNat_ofNat, BitVec.toNat_ofNat] at this
      omega))
    rw [if_neg h]
    show BitVec.ofBool (BitVec.ofNat 32 r.val == BitVec.ofNat 32 k.val) = 0#1
    rw [beq_eq_false_iff_ne.mpr this]; rfl

/-! ## The three shifted copies and the three rows of sums -/

theorem exp_zero_eq : Ideal.exp (0 : EReal) = 1 := by
  rw [show (0 : EReal) = ((0 : ℝ) : EReal) from rfl, Ideal.exp_coe, Real.exp_zero]; rfl

/-- An entry of the padded row is the exponential of a tap, border included. -/
theorem padRow_tap (x : Vec Ideal S1x32x128x128 .f32) (j : S32x16896.Idx) (c : Fin 32) (kh : Fin 3) (kw w : ℕ) (h w' : Fin 128)
    (hw : w'.val + 1 = w + kw) (h0 : (j 0).val = c.val) (h1 : (j 1).val = 128 + 128 * kh.val + 128 * h.val + w'.val) :
    padRow x j = Ideal.exp (tap (image x) c kh kw h w) := by
  have hh := h.isLt
  have hk := kh.isLt
  have hw' := w'.isLt
  by_cases hb : 1 ≤ h.val + kh.val ∧ h.val + kh.val ≤ 128
  · rw [tap_inside (image x) c kh kw h w ⟨h.val + kh.val - 1, by omega⟩ w' (by simp only; omega) hw]
    exact padRow_inside x j c _ _ h0 (by simp only; omega)
  · rw [tap_outside _ _ _ _ _ _ (fun hc => hb hc.1), exp_zero_eq]
    exact padRow_outside x j (by omega)

/-- Row `r` of the stack of the three copies, at pixel `l`. -/
theorem stack_tap (x : Vec Ideal S1x32x128x128 .f32) (r : Fin 96) (l : Fin 16384) (kw : Fin 3) (w : ℕ) (h w' : Fin 128)
    (hw : w'.val + 1 = w + kw) (hl : l.val = h.val * 128 + w'.val) :
    (if _h : r.val < 32 then padRow x (ix2 ⟨r.val, by omega⟩ ⟨128 + l.val, by have := l.isLt; omega⟩)
      else if _h : r.val - 32 < 32 then padRow x (ix2 ⟨r.val - 32, by omega⟩ ⟨256 + l.val, by have := l.isLt; omega⟩)
      else padRow x (ix2 ⟨r.val - 32 - 32, by have := r.isLt; omega⟩ ⟨384 + l.val, by have := l.isLt; omega⟩))
      = Ideal.exp (tap (image x) (rchan r) (rrow r) kw h w) := by
  have hr := r.isLt
  have ec := rchan_val r
  have er := rrow_val r
  split
  · refine padRow_tap x _ (rchan r) (rrow r) kw w h w' hw ?_ ?_
    · show r.val = _; omega
    · show 128 + l.val = _; omega
  split
  · refine padRow_tap x _ (rchan r) (rrow r) kw w h w' hw ?_ ?_
    · show r.val - 32 = _; omega
    · show 256 + l.val = _; omega
  · refine padRow_tap x _ (rchan r) (rrow r) kw w h w' hw ?_ ?_
    · show r.val - 32 - 32 = _; omega
    · show 384 + l.val = _; omega

/-- An entry of the weights is an offset of the instance. -/
theorem weight_eq (W : Vec Ideal S96x96 .f32) (i : Fin 32) (kw : Fin 3) (a r : Fin 96) (ha : a.val = kw.val * 32 + i.val) :
    W (ix2 a r) = offsetsOf W i (rchan r) (rrow r) kw := by
  unfold offsetsOf
  have hr := r.isLt
  congr 2 <;> apply Fin.ext
  · exact ha
  · show r.val = r.val / 32 * 32 + r.val % 32; omega

/-- The sum of one window column at one pixel of the output. -/
def colSum (x : Vec Ideal S1x32x128x128 .f32) (W : Vec Ideal S96x96 .f32) (i : Fin 32) (kw : Fin 3) (h w : ℕ) : EReal :=
  ∑ r : Fin 96, Ideal.exp (offsetsOf W i (rchan r) (rrow r) kw) * Ideal.exp (tap (image x) (rchan r) (rrow r) kw h w)

/-- The product's rows of the left window column. -/
theorem pay7_apply (x : Vec Ideal S1x32x128x128 .f32) (W : Vec Ideal S96x96 .f32) (i : Fin 32) (l : Fin 16384) (w : ℕ) (h w' : Fin 128)
    (hw : w'.val + 1 = w + 0) (hl : l.val = h.val * 128 + w'.val) :
    k0_pay7 (padRow x) W (ix2 i l) = colSum x W i 0 h w := by
  pointwise [k0_pay7, k0_pay6, k0_pay5]
  refine Finset.sum_congr rfl fun r _ => ?_
  exact congrArg₂ (· * ·) (congrArg Ideal.exp (weight_eq W i 0 _ r (by show i.val = 0 * 32 + i.val; omega)))
    (stack_tap x r l 0 w h w' hw hl)

/-- The product's rows of the middle window column. -/
theorem pay8_apply (x : Vec Ideal S1x32x128x128 .f32) (W : Vec Ideal S96x96 .f32) (i : Fin 32) (l : Fin 16384) (w : ℕ) (h w' : Fin 128)
    (hw : w'.val + 1 = w + 1) (hl : l.val = h.val * 128 + w'.val) :
    k0_pay8 (padRow x) W (ix2 i l) = colSum x W i 1 h w := by
  pointwise [k0_pay8, k0_pay6, k0_pay5]
  refine Finset.sum_congr rfl fun r _ => ?_
  exact congrArg₂ (· * ·) (congrArg Ideal.exp (weight_eq W i 1 _ r (by show 32 + i.val = 1 * 32 + i.val; omega)))
    (stack_tap x r l 1 w h w' hw hl)

/-- The product's rows of the right window column. -/
theorem pay9_apply (x : Vec Ideal S1x32x128x128 .f32) (W : Vec Ideal S96x96 .f32) (i : Fin 32) (l : Fin 16384) (w : ℕ) (h w' : Fin 128)
    (hw : w'.val + 1 = w + 2) (hl : l.val = h.val * 128 + w'.val) :
    k0_pay9 (padRow x) W (ix2 i l) = colSum x W i 2 h w := by
  pointwise [k0_pay9, k0_pay6, k0_pay5]
  refine Finset.sum_congr rfl fun r _ => ?_
  exact congrArg₂ (· * ·) (congrArg Ideal.exp (weight_eq W i 2 _ r (by show 64 + i.val = 2 * 32 + i.val; omega)))
    (stack_tap x r l 2 w h w' hw hl)

/-- At the image's edge a whole window column is border, and its sum is the row sum of the weights. -/
theorem edge_sum (x : Vec Ideal S1x32x128x128 .f32) (W : Vec Ideal S96x96 .f32) (i : Fin 32) (kw : Fin 3) (a : Fin 96) (h w : ℕ)
    (ha : a.val = kw.val * 32 + i.val) (hw : ¬(1 ≤ w + kw.val ∧ w + kw.val ≤ 128)) :
    ∑ r : Fin 96, k0_pay5 W (ix2 a r) = colSum x W i kw h w := by
  refine Finset.sum_congr rfl fun r _ => ?_
  rw [tap_outside _ _ _ _ _ _ (fun hc => hw hc.2), exp_zero_eq, mul_one, ← weight_eq W i kw a r ha]
  pointwise [k0_pay5]

/-- **One pixel of the block the body writes.** -/
theorem block_apply (x : Vec Ideal S1x32x128x128 .f32) (W : Vec Ideal S96x96 .f32) (i : Fin 32) (h w : Fin 128) :
    k0_pay1 (k0_pay5 W) (k0_pay7 (padRow x) W) (k0_pay8 (padRow x) W) (k0_pay9 (padRow x) W) (128#32) k0_pay10 k0_pay11 (0#32) (ix4 0 i h w)
      = mexAt (image x) (offsetsOf W i) h w := by
  have hh := h.isLt
  have hw := w.isLt
  have e10 : ∀ p, k0_pay10 (ix2 i ⟨h.val * 128 + w.val, p⟩) = BitVec.ofNat 32 w.val := fun p => by
    apply BitVec.eq_of_toNat_eq
    rw [pay10_apply, BitVec.toNat_ofNat]; simp only; omega
  have hmid : ∀ p, k0_pay8 (padRow x) W (ix2 i ⟨h.val * 128 + w.val, p⟩) = colSum x W i 1 h w :=
    fun p => pay8_apply x W i _ w h w rfl rfl
  unfold mexAt
  rw [window_sum]
  show _ = Ideal.log ((colSum x W i 1 h w + colSum x W i 0 h w) + colSum x W i 2 h w) - log288
  pointwise [k0_pay1]
  rw [e10, fix_col w, hmid, MexPool.div_one',
    show IntOp.cmpi CmpIPredicate.eq (BitVec.ofNat 32 w.val) 0#32 = _ from col_eq w 0,
    show IntOp.cmpi CmpIPredicate.eq (BitVec.ofNat 32 w.val) 127#32 = _ from col_eq w 127]
  have hleft : Scalar.select (if w = 0 then 1#1 else 0#1) (∑ r : Fin 96, k0_pay5 W (ix2 ⟨i.val, by have := i.isLt; omega⟩ r))
      (if _h : h.val * 128 + w.val < 1 then k0_pay7 (padRow x) W (ix2 i ⟨16383 + (h.val * 128 + w.val), by omega⟩)
        else k0_pay7 (padRow x) W (ix2 i ⟨h.val * 128 + w.val - 1, by omega⟩)) = colSum x W i 0 h w := by
    by_cases h0 : w = 0
    · rw [if_pos h0, Scalar.select, if_pos (by decide)]
      subst h0
      exact edge_sum x W i 0 _ h 0 (by show i.val = 0 * 32 + i.val; omega) (by show ¬(1 ≤ 0 + 0 ∧ 0 + 0 ≤ 128); omega)
    · have h1 : w.val ≠ 0 := fun e => h0 (Fin.ext e)
      rw [if_neg h0, Scalar.select, if_neg (by decide), dif_neg (by omega)]
      exact pay7_apply x W i _ w h ⟨w.val - 1, by omega⟩ (by simp only; omega) (by simp only; omega)
  have hright : Scalar.select (if w = 127 then 1#1 else 0#1) (∑ r : Fin 96, k0_pay5 W (ix2 ⟨64 + i.val, by have := i.isLt; omega⟩ r))
      (if _h : h.val * 128 + w.val < 16383 then k0_pay9 (padRow x) W (ix2 i ⟨1 + (h.val * 128 + w.val), by omega⟩)
        else k0_pay9 (padRow x) W (ix2 i ⟨h.val * 128 + w.val - 16383, by omega⟩)) = colSum x W i 2 h w := by
    by_cases h0 : w = 127
    · rw [if_pos h0, Scalar.select, if_pos (by decide)]
      subst h0
      exact edge_sum x W i 2 _ h 127 (by show 64 + i.val = 2 * 32 + i.val; omega) (by show ¬(1 ≤ 127 + 2 ∧ 127 + 2 ≤ 128); omega)
    · have h1 : w.val ≠ 127 := fun e => h0 (Fin.ext e)
      rw [if_neg h0, Scalar.select, if_neg (by decide), dif_pos (by omega)]
      exact pay9_apply x W i _ w h ⟨w.val + 1, by omega⟩ rfl (by simp only; omega)
  exact congrArg (fun s => Ideal.log s - log288) (congrArg₂ (· + ·) (congrArg (colSum x W i 1 h w + ·) hleft) hright)

end Cert.KernelIdeal.MexBlock

end
-- ==== Proof.KernelValue.lean ====
/- The kernel's result array after the run: the eight blocks its grid points write are the eight images of `MexPool.mex`
   of the two arguments. -/
module

public import proofs.«01_k».proof.Proof.Block

@[expose] public section

set_option maxRecDepth 16384

noncomputable section

namespace Cert.KernelIdeal.MexBlock

open Idealize.ShloMosaic Idealize.ShloMosaic.TcCoe Idealize.ShloMosaic.Tactic Idealize.SL.Sem
open Cert.KernelIdeal Cert.KernelIdeal.Gen
open MexPool

variable (m : (ℓ : Loc nD τ sig) → Buf (Elt Ideal) ℓ)

/-- Where each window's block lies at grid point `t`. -/
theorem index_facts : ∀ t : Fin cfg0.N, win0_0.index t = ![t.val, 0, 0, 0] ∧ win0_1.index t = ![0, 0] ∧ win0_2.index t = ![t.val, 0, 0, 0] := by
  decide +kernel

/-- The block of the image array at grid point `t` is image `t`. -/
theorem image_eq (c : Dev nD) (t : Fin cfg0.N) (ch : Fin 32) (h w : Fin 128) (n : Fin 8) (hn : n.val = t.val) :
    image (iblk m c 0 t) ch h w = m ((c : Thread nD τ).loc main_arg0) (ix4 n ch h w) := by
  unfold image
  blk_ext [iblk, V_main_arg0, (index_facts t).1]

/-- The block of the weight matrix is the whole matrix, at every grid point. -/
theorem weights_eq (c : Dev nD) (t : Fin cfg0.N) (a b : Fin 96) : iblk m c 1 t (ix2 a b) = V m c main_v2 (ix2 a b) := by
  blk_ext [iblk, (index_facts t).2.1]

/-- The weight matrix is the offsets, transposed and flattened. -/
theorem offsets_eq (c : Dev nD) (t : Fin cfg0.N) (i ch : Fin 32) (kh kw : Fin 3) :
    offsetsOf (iblk m c 1 t) i ch kh kw = m ((c : Thread nD τ).loc main_arg1) (ix5 0 i ch kh kw) := by
  unfold offsetsOf
  rw [weights_eq]
  entry_read
  pointwise

/-- **The result array after the run.** -/
theorem final (c : Dev nD) : (dats m 0 c).arrAt 2 cfg0.N
    = mex (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [scratch_eq]
  obtain ⟨i0, i, h, w, rfl⟩ : ∃ (i0 : Fin 1) (i : Fin 32) (h w : Fin 128), y = ix4 i0 i h w := ⟨y 0, y 1, y 2, y 3, eq_ix4 y⟩
  obtain rfl : i0 = 0 := Subsingleton.elim _ _
  have hN : t.val < 8 := lt_of_lt_of_eq t.isLt N_0
  have e : (((View.whole main_v3).slice (win0_2.rect t)).emb (ix4 0 i h w)) = (ix4 (⟨t.val, hN⟩ : Fin 8) i h w : S8x32x128x128.Idx) := by
    blk_ext [(index_facts t).2.2]
  rw [e]
  refine (block_apply _ _ i h w).trans ?_
  unfold mex
  have e1 : image (iblk m c 0 t) = fun ch h w => m ((c : Thread nD τ).loc main_arg0) (ix4 (⟨t.val, hN⟩ : Fin 8) ch h w) :=
    funext fun ch => funext fun h => funext fun w => image_eq m c t ch h w _ rfl
  have e2 : offsetsOf (iblk m c 1 t) i = fun ch kh kw => m ((c : Thread nD τ).loc main_arg1) (ix5 0 i ch kh kw) :=
    funext fun ch => funext fun kh => funext fun kw => offsets_eq m c t i ch kh kw
  rw [e1, e2]; rfl

end Cert.KernelIdeal.MexBlock

end
-- ==== Proof.RefTaps.lean ====
/- The reference's patch table: row (n · 128 + h) · 128 + w, column k of the table holds the tap of term k at pixel (h, w) of
   image n. -/
module

public import proofs.«01_k».proof.Proof.Spec
public import proofs.«01_k».proof.Proof.Gen.ReferenceIdeal.Read
public import Idealize.ShloMosaic.Lib.Pointwise
public import Idealize.ShloMosaic.Lib.Tactic.CleanTypes

@[expose] public section

set_option maxRecDepth 16384

noncomputable section

namespace Cert.ReferenceIdeal.MexRef

open Idealize.ShloMosaic Idealize.ShloMosaic.TcCoe Idealize.ShloMosaic.Tactic Idealize.SL.Sem
open Cert.ReferenceIdeal Cert.ReferenceIdeal.Read
open MexPool
open scoped BigOperators

/-- The image array. -/
abbrev Img := S8x32x128x128.Idx → EReal
/-- The offset array. -/
abbrev Off := S1x32x32x3x3.Idx → EReal

/-- The padding value, the integer zero read as a float. -/
theorem pad_value : (FloatOps.sitofp (F := Ideal) FTy.f32 (0#32) : EReal) = 0 := by
  show (((0#32 : BitVec 32).toInt : ℝ) : EReal) = 0
  simp

/-- The padded image read at row `h + kh`, column `w + kw` is the tap. -/
theorem pad_tap (x : Img) (n : Fin 8) (c : Fin 32) (a b : Fin 130) (kh kw h w : ℕ)
    (ha : a.val = h + kh) (hb : b.val = w + kw) :
    val_main_v0 (F := Ideal) x (ix4 n c a b) = tap (fun c h w => x (ix4 n c h w)) c kh kw h w := by
  have e : val_main_v0 (F := Ideal) x (ix4 n c a b)
      = if hh : (1 ≤ a.val ∧ a.val - 1 < 128) ∧ 1 ≤ b.val ∧ b.val - 1 < 128
        then x (ix4 n c ⟨a.val - 1, hh.1.2⟩ ⟨b.val - 1, hh.2.2⟩)
        else FloatOps.sitofp (F := Ideal) FTy.f32 (0#32) := by
    pointwise [val_main_v0, val_main_call0_v0, val_main_c]
  rw [e]
  by_cases hh : (1 ≤ a.val ∧ a.val - 1 < 128) ∧ 1 ≤ b.val ∧ b.val - 1 < 128
  · rw [dif_pos hh]
    exact (tap_inside (fun c h w => x (ix4 n c h w)) c kh kw h w ⟨a.val - 1, hh.1.2⟩ ⟨b.val - 1, hh.2.2⟩
      (by simp only; omega) (by simp only; omega)).symm
  · rw [dif_neg hh, pad_value]
    exact (tap_outside _ c kh kw h w (by omega)).symm

/-- The stacked shifted images: slot `q` of the stack is window position `(q / 3, q % 3)`. -/
theorem stack_tap (x : Img) (n : Fin 8) (c : Fin 32) (q : Fin 9) (h w : Fin 128) :
    val_main_v19 (F := Ideal) x (ix5 n c q h w)
      = tap (fun c h w => x (ix4 n c h w)) c (q.val / 3) (q.val % 3) h.val w.val := by
  pointwise [val_main_v19]
  fin_vals q with hq
  all_goals simp only [hq, Nat.reduceSub, Nat.reduceLT, ↓reduceDIte]
  · pointwise [val_main_v10, val_main_v1]
    exact pad_tap x n c _ _ 0 0 h.val w.val (by simp only; omega) (by simp only; omega)
  · pointwise [val_main_v11, val_main_v2]
    exact pad_tap x n c _ _ 0 1 h.val w.val (by simp only; omega) (by simp only; omega)
  · pointwise [val_main_v12, val_main_v3]
    exact pad_tap x n c _ _ 0 2 h.val w.val (by simp only; omega) (by simp only; omega)
  · pointwise [val_main_v13, val_main_v4]
    exact pad_tap x n c _ _ 1 0 h.val w.val (by simp only; omega) (by simp only; omega)
  · pointwise [val_main_v14, val_main_v5]
    exact pad_tap x n c _ _ 1 1 h.val w.val (by simp only; omega) (by simp only; omega)
  · pointwise [val_main_v15, val_main_v6]
    exact pad_tap x n c _ _ 1 2 h.val w.val (by simp only; omega) (by simp only; omega)
  · pointwise [val_main_v16, val_main_v7]
    exact pad_tap x n c _ _ 2 0 h.val w.val (by simp only; omega) (by simp only; omega)
  · pointwise [val_main_v17, val_main_v8]
    exact pad_tap x n c _ _ 2 1 h.val w.val (by simp only; omega) (by simp only; omega)
  · pointwise [val_main_v18, val_main_v9]
    exact pad_tap x n c _ _ 2 2 h.val w.val (by simp only; omega) (by simp only; omega)

/-- The patch table at row `l`, the row of pixel `(h, w)` of image `n`, and column `k`. -/
theorem patch (x : Img) (i : S131072x288.Idx) (k : Fin 288) (n : Fin 8) (h w : Fin 128)
    (hl : (i 0).val = (n.val * 128 + h.val) * 128 + w.val) (hk : (i 1).val = k.val) :
    val_main_v22 (F := Ideal) x i
      = tap (fun c h w => x (ix4 n c h w)) (chan k) (wrow k).val (wcol k).val h.val w.val := by
  have hn := n.isLt
  have hh := h.isLt
  have hw := w.isLt
  have hk' := k.isLt
  rw [val_main_v22_apply, val_main_v21_apply, val_main_v20_apply]
  have e : idx_main_v20 (idx_main_v21 (idx_main_v22 i))
      = ix5 n (chan k) (⟨k.val % 9, Nat.mod_lt _ (by omega)⟩ : Fin 9) h w := by
    have e0 : (idx_main_v22 i 0).val = n.val := by
      show ((i 0).val * 288 + (i 1).val) / 4718592 = _
      rw [hl, hk]; omega
    have e1 : (idx_main_v22 i 1).val = h.val := by
      show ((i 0).val * 288 + (i 1).val) / 36864 % 128 = _
      rw [hl, hk]; omega
    have e2 : (idx_main_v22 i 2).val = w.val := by
      show ((i 0).val * 288 + (i 1).val) / 288 % 128 = _
      rw [hl, hk]; omega
    have e3 : (idx_main_v22 i 3).val = k.val := by
      show ((i 0).val * 288 + (i 1).val) % 288 = _
      rw [hl, hk]; omega
    generalize idx_main_v22 i = y at e0 e1 e2 e3 ⊢
    refine funext fun a => Fin.ext ?_
    match a with
    | ⟨0, _⟩ =>
      show ((((y 0).val * 288 + (y 3).val) * 128 + (y 1).val) * 128 + (y 2).val) / 4718592 = n.val
      rw [e0, e1, e2, e3]; omega
    | ⟨1, _⟩ =>
      show ((((y 0).val * 288 + (y 3).val) * 128 + (y 1).val) * 128 + (y 2).val) / 147456 % 32 = (chan k).val
      rw [e0, e1, e2, e3, chan_val]; omega
    | ⟨2, _⟩ =>
      show ((((y 0).val * 288 + (y 3).val) * 128 + (y 1).val) * 128 + (y 2).val) / 16384 % 9 = k.val % 9
      rw [e0, e1, e2, e3]; omega
    | ⟨3, _⟩ =>
      show ((((y 0).val * 288 + (y 3).val) * 128 + (y 1).val) * 128 + (y 2).val) / 128 % 128 = h.val
      rw [e0, e1, e2, e3]; omega
    | ⟨4, _⟩ =>
      show ((((y 0).val * 288 + (y 3).val) * 128 + (y 1).val) * 128 + (y 2).val) % 128 = w.val
      rw [e0, e1, e2, e3]; omega
  rw [e, stack_tap, wrow_val, wcol_val]
  congr 1 <;> simp only <;> omega

/-- The offset table at row `i`, column `k`. -/
theorem offset (o : Off) (j : S32x288.Idx) (i : Fin 32) (k : Fin 288) (hi : (j 0).val = i.val) (hk : (j 1).val = k.val) :
    val_main_v23 (F := Ideal) o j = o (ix5 0 i (chan k) (wrow k) (wcol k)) := by
  have hi' := i.isLt
  have hk' := k.isLt
  rw [val_main_v23_apply]
  congr 1
  refine funext fun a => Fin.ext ?_
  match a with
  | ⟨0, _⟩ => rfl
  | ⟨1, _⟩ =>
    show ((j 0).val * 288 + (j 1).val) / 288 % 32 = i.val
    rw [hi, hk]; omega
  | ⟨2, _⟩ =>
    show ((j 0).val * 288 + (j 1).val) / 9 % 32 = (chan k).val
    rw [hi, hk, chan_val]; omega
  | ⟨3, _⟩ =>
    show ((j 0).val * 288 + (j 1).val) / 3 % 3 = (wrow k).val
    rw [hi, hk, wrow_val]; omega
  | ⟨4, _⟩ =>
    show ((j 0).val * 288 + (j 1).val) % 3 = (wcol k).val
    rw [hi, hk, wcol_val]; omega

end Cert.ReferenceIdeal.MexRef

end
-- ==== Proof.RefValue.lean ====
/- What the reference computes, read at one pixel: its two maxima, its sum, and its result. -/
module

public import proofs.«01_k».proof.Proof.RefTaps
public import proofs.«01_k».proof.Proof.LogSumExp
public import Idealize.ShloMosaic.Lib.IdealHost

@[expose] public section

set_option maxRecDepth 16384

noncomputable section

namespace Cert.ReferenceIdeal.MexRef

open Idealize.ShloMosaic Idealize.ShloMosaic.TcCoe Idealize.ShloMosaic.Tactic Idealize.SL.Sem
open Cert.ReferenceIdeal Cert.ReferenceIdeal.Read
open MexPool
open scoped BigOperators

/-- The pattern the maxima start from is `-∞`. -/
theorem start_bot : Ideal.ofBits .f32 0xFF800000#32 = ⊥ := by
  simp [Ideal.ofBits, Ideal.ieee]

/-- The maximum of 288 numbers below `+∞` is below `+∞`. -/
theorem fold_ne_top (f : Fin 288 → EReal) (hf : ∀ k, f k ≠ ⊤) : Finset.univ.fold max ⊥ f ≠ ⊤ := by
  refine ne_of_lt ((Finset.fold_max_lt (c := (⊤ : EReal))).mpr ⟨bot_lt_top, fun k _ => lt_top_iff_ne_top.mpr (hf k)⟩)

/-- If the maximum is `-∞`, every number is. -/
theorem fold_bot (f : Fin 288 → EReal) (h : Finset.univ.fold max ⊥ f = ⊥) (k : Fin 288) : f k = ⊥ :=
  le_bot_iff.mp (((Finset.fold_max_le (c := (⊥ : EReal))).mp h.le).2 k (Finset.mem_univ k))

/-- The maximum over a row of the patch table. -/
theorem patch_max (x : Img) (l : Fin 131072) :
    val_main_v24 (F := Ideal) x (ix1 l)
      = Finset.univ.fold max (⊥ : EReal) (fun k : Fin 288 => val_main_v22 (F := Ideal) x (ix2 l k)) := by
  pointwise [val_main_v24, val_main_cst]
  rw [start_bot]

/-- The maximum over a row of the offset table. -/
theorem offset_max (o : Off) (i : Fin 32) :
    val_main_v26 (F := Ideal) o (ix1 i)
      = Finset.univ.fold max (⊥ : EReal) (fun k : Fin 288 => val_main_v23 (F := Ideal) o (ix2 i k)) := by
  pointwise [val_main_v26, val_main_cst_0]
  rw [start_bot]

/-- The first factor of a term: the exponential of the patch entry less its row's maximum. -/
theorem left_factor (x : Img) (j : S131072x288.Idx) :
    val_main_v32 (F := Ideal) x j
      = Ideal.exp (val_main_v22 (F := Ideal) x j - val_main_v24 (F := Ideal) x (ix1 (j 0))) := by
  have e : idx_main_v25 (idx_main_v28 j) = ix1 (j 0) := funext fun a => Fin.ext (by
    match a with
    | ⟨0, _⟩ => rfl)
  rw [val_main_v32_apply, val_main_v31_apply, val_main_v30_apply, val_main_cst_1_apply, val_main_v29_apply,
    val_main_v28_apply, val_main_v25_apply, e]
  show Ideal.exp (Ideal.ofBits .f32 0x3F800000#32 * (_ - _)) = _
  rw [Ideal.ofBits_one_f32, one_mul]
  rfl

/-- The second factor of a term: the exponential of the offset less its row's maximum. -/
theorem right_factor (o : Off) (j : S32x288.Idx) :
    val_main_v37 (F := Ideal) o j
      = Ideal.exp (val_main_v23 (F := Ideal) o j - val_main_v26 (F := Ideal) o (ix1 (j 0))) := by
  have e : idx_main_v27 (idx_main_v33 j) = ix1 (j 0) := funext fun a => Fin.ext (by
    match a with
    | ⟨0, _⟩ => rfl)
  rw [val_main_v37_apply, val_main_v36_apply, val_main_v35_apply, val_main_cst_2_apply, val_main_v34_apply,
    val_main_v33_apply, val_main_v27_apply, e]
  show Ideal.exp (Ideal.ofBits .f32 0x3F800000#32 * (_ - _)) = _
  rw [Ideal.ofBits_one_f32, one_mul]
  rfl

/-- The sum under the reference's logarithm. -/
theorem shifted_sum (x : Img) (o : Off) (j : S131072x32.Idx) :
    val_main_v39 (F := Ideal) x o j
      = ∑ k : Fin 288,
          Ideal.exp (val_main_v22 (F := Ideal) x (ix2 (j 0) k) - val_main_v24 (F := Ideal) x (ix1 (j 0)))
          * Ideal.exp (val_main_v23 (F := Ideal) o (ix2 (j 1) k) - val_main_v26 (F := Ideal) o (ix1 (j 1))) := by
  rw [val_main_v39_apply]
  refine Finset.sum_congr rfl fun k _ => ?_
  have el : lidx_main_v39 j k = ix2 (j 0) k := funext fun a => Fin.ext (by
    match a with
    | ⟨0, _⟩ => rfl
    | ⟨1, _⟩ => rfl)
  have er : idx_main_v38 (ridx_main_v39 j k) = ix2 (j 1) k := funext fun a => Fin.ext (by
    match a with
    | ⟨0, _⟩ => rfl
    | ⟨1, _⟩ => rfl)
  exact congrArg₂ (· * ·) ((congrArg (val_main_v32 (F := Ideal) x) el).trans (left_factor x (ix2 (j 0) k)))
    (((val_main_v38_apply o _).trans (congrArg (val_main_v37 (F := Ideal) o) er)).trans (right_factor o (ix2 (j 1) k)))

/-- The result at one entry, before it is laid out as an image. -/
theorem entry (x : Img) (o : Off) (j : S131072x32.Idx) :
    val_main_v50 (F := Ideal) x o j
      = (val_main_v24 (F := Ideal) x (ix1 (j 0)) + val_main_v26 (F := Ideal) o (ix1 (j 1)))
        + (Ideal.log (val_main_v39 (F := Ideal) x o j) - log288) := by
  have e1 : idx_main_v25 (idx_main_v41 j) = ix1 (j 0) := funext fun a => Fin.ext (by
    match a with
    | ⟨0, _⟩ => rfl)
  have e2 : idx_main_v27 (idx_main_v40 (idx_main_v42 j)) = ix1 (j 1) := funext fun a => Fin.ext (by
    match a with
    | ⟨0, _⟩ => rfl)
  rw [val_main_v50_apply, val_main_v43_apply, val_main_v41_apply, val_main_v25_apply, e1, val_main_v42_apply,
    val_main_v40_apply, val_main_v27_apply, e2, val_main_v49_apply, val_main_v48_apply, val_main_cst_4_apply,
    val_main_v47_apply, val_main_v44_apply, val_main_v46_apply, val_main_v45_apply, val_main_cst_3_apply]
  generalize val_main_v39 (F := Ideal) x o j = s
  show (_ + _) + Ideal.div (Ideal.log s - Ideal.log (Ideal.ofBits .f32 0x43900000#32)) (Ideal.ofBits .f32 0x3F800000#32) = _
  rw [Ideal.ofBits_one_f32, div_one']
  rfl

/-- `log 288` is a real number. -/
theorem log288_real : ∃ L : ℝ, log288 = (L : EReal) := by
  have h : Ideal.ofBits .f32 0x43900000#32 = ((288 : ℝ) : EReal) := by
    simp [Ideal.ofBits, Ideal.ieee, -EReal.coe_mul]
    norm_num
  refine ⟨Real.log 288, ?_⟩
  unfold log288
  rw [h]
  simp

/-- No tap of an image below `+∞` is `+∞`. -/
theorem tap_ne_top (X : Fin 32 → Fin 128 → Fin 128 → EReal) (hX : ∀ c h w, X c h w ≠ ⊤) (c : Fin 32) (kh kw h w : ℕ) :
    tap X c kh kw h w ≠ ⊤ := by
  unfold tap
  split
  · exact hX _ _ _
  · exact EReal.zero_ne_top

/-- **The reference computes `mex`**, on arguments below `+∞`. -/
theorem result (x : Img) (o : Off) (hx : ∀ j, x j ≠ ⊤) (ho : ∀ j, o j ≠ ⊤) :
    val_main_v52 (F := Ideal) x o = mex x o := by
  funext j
  rw [val_main_v52_apply, val_main_v51_apply]
  have h0 : (j 0).val < 8 := (j 0).isLt
  have h1 : (j 1).val < 32 := (j 1).isLt
  have h2 : (j 2).val < 128 := (j 2).isLt
  have h3 : (j 3).val < 128 := (j 3).isLt
  have i0 : (idx_main_v51 (idx_main_v52 j) 0).val = ((j 0).val * 128 + (j 2).val) * 128 + (j 3).val := by
    show ((((j 0).val * 128 + (j 2).val) * 128 + (j 3).val) * 32 + (j 1).val) / 32 = _
    omega
  have i1 : (idx_main_v51 (idx_main_v52 j) 1) = j 1 := Fin.ext (by
    show ((((j 0).val * 128 + (j 2).val) * 128 + (j 3).val) * 32 + (j 1).val) % 32 = _
    omega)
  generalize idx_main_v51 (idx_main_v52 j) = y at i0 i1 ⊢
  have hp : ∀ k : Fin 288, val_main_v22 (F := Ideal) x (ix2 (y 0) k)
      = tap (fun c h w => x (ix4 (j 0) c h w)) (chan k) (wrow k).val (wcol k).val (j 2).val (j 3).val :=
    fun k => patch x (ix2 (y 0) k) k (j 0) (j 2) (j 3) i0 rfl
  have hq : ∀ k : Fin 288, val_main_v23 (F := Ideal) o (ix2 (y 1) k)
      = o (ix5 0 (j 1) (chan k) (wrow k) (wcol k)) :=
    fun k => offset o (ix2 (y 1) k) (j 1) k (congrArg Fin.val i1) rfl
  obtain ⟨L, hL⟩ := log288_real
  have hpt : ∀ k : Fin 288, val_main_v22 (F := Ideal) x (ix2 (y 0) k) ≠ ⊤ := fun k => by
    rw [hp]; exact tap_ne_top _ (fun _ _ _ => hx _) _ _ _ _ _
  have hqt : ∀ k : Fin 288, val_main_v23 (F := Ideal) o (ix2 (y 1) k) ≠ ⊤ := fun k => by
    rw [hq]; exact ho _
  rw [entry, shifted_sum, hL]
  refine (shift_out (fun k : Fin 288 => val_main_v22 (F := Ideal) x (ix2 (y 0) k))
    (fun k : Fin 288 => val_main_v23 (F := Ideal) o (ix2 (y 1) k)) hpt hqt
    (val_main_v24 (F := Ideal) x (ix1 (y 0))) (val_main_v26 (F := Ideal) o (ix1 (y 1))) ?_ ?_ ?_ ?_ L).trans ?_
  · have e := patch_max x (y 0)
    exact e ▸ fold_ne_top _ hpt
  · have e := offset_max o (y 1)
    exact e ▸ fold_ne_top _ hqt
  · intro h k
    exact fold_bot _ ((patch_max x (y 0)).symm.trans h) k
  · intro h k
    exact fold_bot _ ((offset_max o (y 1)).symm.trans h) k
  · rw [← hL]
    unfold mex mexAt mexSum
    simp only [hp, hq]

end Cert.ReferenceIdeal.MexRef

end
-- ==== Proof.Equation.lean ====
/- The value claim: under the precondition the kernel's run and the reference's run end with the same result, `mex` of the two
   argument arrays. -/
module

public import proofs.«01_k».proof.Defs
public import proofs.«01_k».proof.Proof.KernelValue
public import proofs.«01_k».proof.Proof.RefValue
public import proofs.«01_k».proof.Proof.Gen.KernelIdeal.Value
public import proofs.«01_k».proof.Proof.Gen.ReferenceIdeal.Run
public import Idealize.ShloMosaic.Lib.Pointwise

@[expose] public section

noncomputable section

namespace Cert.Proof

open Idealize.ShloMosaic Idealize.ShloMosaic.TcCoe Idealize.ShloMosaic.Tactic Idealize.SL.Sem
open MexPool

/-- The side conditions the precondition's operations state. -/
theorem preFacts : Cert.Pre_no_plus_infinity.Facts := ⟨by decide, by decide⟩

/-- The pattern the precondition compares with is `+∞`. -/
theorem bound_top : Ideal.ofBits .f32 0x7F800000#32 = ⊤ := by
  simp [Ideal.ofBits, Ideal.ieee]

/-- A comparison `x < +∞` that came out one says `x` is not `+∞`. -/
theorem ne_top_of_cmp (x : EReal)
    (h : FloatOps.cmpf (F := Ideal) (φ := .f32) .olt x (FloatOps.ofBits (F := Ideal) .f32 0x7F800000#32) = 1#1) : x ≠ ⊤ := by
  intro hx
  change FloatOps.cmpf (F := Ideal) (φ := .f32) .olt x (Ideal.ofBits .f32 0x7F800000#32) = 1#1 at h
  rw [hx, bound_top] at h
  revert h
  show ¬ (Ideal.cmp .olt (⊤ : EReal) (⊤ : EReal) = 1#1)
  simp [Ideal.cmp]

/-- What the precondition says of the two argument arrays: no element is `+∞`. -/
theorem pre_ne_top [hp : Cert.Pre_no_plus_infinity.Facts]
    (x : Cert.Pre_no_plus_infinity.S8x32x128x128.Idx → EReal) (o : Cert.Pre_no_plus_infinity.S1x32x32x3x3.Idx → EReal)
    (h : (Cert.Pre_no_plus_infinity.fn (F := Ideal) x o).1 = (fun _ => 1#1)
      ∧ (Cert.Pre_no_plus_infinity.fn (F := Ideal) x o).2 = (fun _ => 1#1)) :
    (∀ j, x j ≠ ⊤) ∧ (∀ j, o j ≠ ⊤) :=
  ⟨fun j => ne_top_of_cmp (x j) (congrFun h.1 j), fun j => ne_top_of_cmp (o j) (congrFun h.2 j)⟩

/-- The value claim. -/
theorem algebraic [hPre : Cert.Pre_no_plus_infinity.Facts] :
    Cert.algebraic_KernelIdeal_ReferenceIdeal_pre_no_plus_infinity (hKernelIdeal := Cert.KernelIdeal.Gen.facts)
      (hReferenceIdeal := Cert.ReferenceIdeal.Gen.facts) := by
  intro m g m' g' hpre hagree
  refine ⟨fun c => mex (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.MexBlock.final m c), (h c).2⟩)
      (Cert.KernelIdeal.Value.run_blocks (F := Ideal) m g)
  · refine (θ_run Cert.ReferenceIdeal.defs _ _).mono
      (fun r h c => ⟨(h c).1.trans ?_, (h c).2⟩) (Cert.ReferenceIdeal.Value.run (F := Ideal) m' g')
    have hn := pre_ne_top _ _ (hpre c)
    rw [Cert.ReferenceIdeal.Read.val_main_v52_eq, (hagree c).1, (hagree c).2]
    exact Cert.ReferenceIdeal.MexRef.result _ _ hn.1 hn.2

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments alone and declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Everything the certificate claims. -/
theorem claim : Cert.Claim := ⟨Cert.Kernel.Gen.facts, Cert.KernelIdeal.Gen.facts, Cert.ReferenceIdeal.Gen.facts, preFacts,
  fun m g _ => Cert.Kernel.Gen.frame m g,
  fun m g _ => Cert.KernelIdeal.Gen.frame m g,
  fun m g _ => Cert.KernelIdeal.Gen.frame m g,
  fun m g _ => frame_reference m g,
  fun m g _ => frame_reference m g,
  trivial,
  algebraic (hPre := preFacts)⟩

end Cert.Proof

end
